-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S256x256 : Shape := ⟨2, ![256, 256]⟩
abbrev S_ : Shape := ⟨0, ![]⟩
abbrev S256x2 : Shape := ⟨2, ![256, 2]⟩
abbrev S1024x256 : Shape := ⟨2, ![1024, 256]⟩
abbrev S256 : Shape := ⟨1, ![256]⟩
abbrev S1024 : Shape := ⟨1, ![1024]⟩
abbrev S2x1024 : Shape := ⟨2, ![2, 1024]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x256 .f32) (main_arg1 : IVec S_ 32) (main_arg2 : IVec S_ 32) (main_arg3 : IVec S_ 32) (main_arg4 : FVec F S256x2 .f32) (main_arg5 : FVec F S1024x256 .f32) (main_arg6 : FVec F S256 .f32) (main_arg7 : FVec F S1024 .f32) (main_arg8 : FVec F S2x1024 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S1024x256 .f32 := Host.absf main_arg5
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_cst_2 : FVec F S_ .f32 := constant S_ .f32 0x00000000#32
  let main_v9 : FVec F S256 .f32 := broadcastInDim S256 ![] bcast_S_S256 main_cst_2
  let main_v10 : IVec S256 1 := cmpf .une main_arg6 main_v9
  let main_c_3 : IVec S_ 1 := constantI S_ 1 0#1
  let main_v11 : IVec S_ 1 := (fun x v => Host.reduce IntOp.ori x v reducesTo_S256_S_d0 h_S_) main_v10 main_c_3
  let main_v12 : IVec S_ 1 := andi main_v8 main_v11
  let main_cst_4 : FVec F S_ .f32 := constant S_ .f32 0x00000000#32
  let main_v13 : FVec F S1024 .f32 := broadcastInDim S1024 ![] bcast_S_S1024 main_cst_4
  let main_v14 : IVec S1024 1 := cmpf .oge main_arg7 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S256x256 : Shape := ⟨2, ![256, 256]⟩
abbrev S_ : Shape := ⟨0, ![]⟩
abbrev S256x2 : Shape := ⟨2, ![256, 2]⟩
abbrev S1024x256 : Shape := ⟨2, ![1024, 256]⟩
abbrev S256 : Shape := ⟨1, ![256]⟩
abbrev S1024 : Shape := ⟨1, ![1024]⟩
abbrev S2x1024 : Shape := ⟨2, ![2, 1024]⟩
abbrev S1x256 : Shape := ⟨2, ![1, 256]⟩
abbrev S1x1024 : Shape := ⟨2, ![1, 1024]⟩
abbrev S1x1x256 : Shape := ⟨3, ![1, 1, 256]⟩
abbrev S1 : Shape := ⟨1, ![1]⟩
abbrev S1x1x1 : Shape := ⟨3, ![1, 1, 1]⟩
abbrev S256x1 : Shape := ⟨2, ![256, 1]⟩
abbrev S1024x1 : Shape := ⟨2, ![1024, 1]⟩
abbrev S256x1024 : Shape := ⟨2, ![256, 1024]⟩

abbrev nBuf : Space → Nat
  | .hbm => 12
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S256x2, .f32⟩
  | .hbm, ⟨5, _⟩ => ⟨S1024x256, .f32⟩
  | .hbm, ⟨6, _⟩ => ⟨S256, .f32⟩
  | .hbm, ⟨7, _⟩ => ⟨S1024, .f32⟩
  | .hbm, ⟨8, _⟩ => ⟨S2x1024, .f32⟩
  | .hbm, ⟨9, _⟩ => ⟨S1x256, .f32⟩
  | .hbm, ⟨10, _⟩ => ⟨S1x1024, .f32⟩
  | .hbm, ⟨11, _⟩ => ⟨S256x2, .f32⟩
  | .local _ .vmem, ⟨0, _⟩ => ⟨S256x256, .f32⟩
  | .local _ .vmem, ⟨1, _⟩ => ⟨S1024x256, .f32⟩
  | .local _ .vmem, ⟨2, _⟩ => ⟨S1x256, .f32⟩
  | .local _ .vmem, ⟨3, _⟩ => ⟨S1x1024, .f32⟩
  | .local _ .vmem, ⟨4, _⟩ => ⟨S2x1024, .f32⟩
  | .local _ .vmem, ⟨5, _⟩ => ⟨S256x2, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x256 : Shape := ⟨2, ![256, 256]⟩
abbrev S_ : Shape := ⟨0, ![]⟩
abbrev S256x2 : Shape := ⟨2, ![256, 2]⟩
abbrev S1024x256 : Shape := ⟨2, ![1024, 256]⟩
abbrev S256 : Shape := ⟨1, ![256]⟩
abbrev S1024 : Shape := ⟨1, ![1024]⟩
abbrev S2x1024 : Shape := ⟨2, ![2, 1024]⟩
abbrev S256x1x256 : Shape := ⟨3, ![256, 1, 256]⟩
abbrev S1x1024x256 : Shape := ⟨3, ![1, 1024, 256]⟩
abbrev S256x1024x256 : Shape := ⟨3, ![256, 1024, 256]⟩
abbrev S1x1x256 : Shape := ⟨3, ![1, 1, 256]⟩
abbrev S256x1024 : Shape := ⟨2, ![256, 1024]⟩
abbrev S1x1024 : Shape := ⟨2, ![1, 1024]⟩
abbrev S256x1 : Shape := ⟨2, ![256, 1]⟩
abbrev S1024x2 : Shape := ⟨2, ![1024, 2]⟩

abbrev nBuf : Space → Nat
  | .hbm => 84
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S256x2, .f32⟩
  | .hbm, ⟨5, _⟩ => ⟨S1024x256, .f32⟩
  | .hbm, ⟨6, _⟩ => ⟨S256, .f32⟩
  | .hbm, ⟨7, _⟩ => ⟨S1024, .f32⟩
  | .hbm, ⟨8, _⟩ => ⟨S2x1024, .f32⟩
  | .hbm, ⟨9, _⟩ => ⟨S256, .f32⟩
  | .hbm, ⟨10, _⟩ => ⟨S_, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1x256, .f32⟩
  | .hbm, ⟨15, _⟩ => ⟨S1x1024x256, .f32⟩
  | .hbm, ⟨16, _⟩ => ⟨S256x1024x256, .f32⟩
  | .hbm, ⟨17, _⟩ => ⟨S256x1024x256, .f32⟩
  | .hbm, ⟨18, _⟩ => ⟨S256x1024x256, .f32⟩
  | .hbm, ⟨19, _⟩ => ⟨S256x1024x256, .f32⟩
  | .hbm, ⟨20, _⟩ => ⟨S_, .f32⟩
  | .hbm, ⟨21, _⟩ => ⟨S256x1024x256, .f32⟩
  | .hbm, ⟨22, _⟩ => ⟨S256x1024x256, .f32⟩
  | .hbm, ⟨23, _⟩ => ⟨S1x1x256, .f32⟩
  | .hbm, ⟨24, _⟩ => ⟨S256x1024x256, .f32⟩
  | .hbm, ⟨25, _⟩ => ⟨S256x1024x256, .f32⟩
  | .hbm, ⟨26, _⟩ => ⟨S_, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .i1⟩
  | .hbm, ⟨57, _⟩ => ⟨S_, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S_, .f32⟩
  | .hbm, ⟨62, _⟩ => ⟨S256x1024, .i1⟩
  | .hbm, ⟨63, _⟩ => ⟨S256x1024, .f32⟩
  | .hbm, ⟨64, _⟩ => ⟨S256x1024, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S256x1, .f32⟩
  | .hbm, ⟨71, _⟩ => ⟨S256x1024, .f32⟩
  | .hbm, ⟨72, _⟩ => ⟨S256x1024, .f32⟩
  | .hbm, ⟨73, _⟩ => ⟨S256x1024, .f32⟩
  | .hbm, ⟨74, _⟩ => ⟨S_, .f32⟩
  | .hbm, ⟨75, _⟩ => ⟨S256, .f32⟩
  | .hbm, ⟨76, _⟩ => ⟨S256x1, .f32⟩
  | .hbm, ⟨77, _⟩ => ⟨S256x1024, .f32⟩
  | .hbm, ⟨78, _⟩ => ⟨S256x1024, .f32⟩
  | .hbm, ⟨79, _⟩ => ⟨S1024x2, .f32⟩
  | .hbm, ⟨80, _⟩ => ⟨S256x2, .f32⟩
  | .hbm, ⟨81, _⟩ => ⟨S_, .f32⟩
  | .hbm, ⟨82, _⟩ => ⟨S256x2, .f32⟩
  | .hbm, ⟨83, _⟩ => ⟨S256x2, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Proof.Weights.lean ====
/- The mathematics the kernel and the reference differ in, over the extended reals: the normalised attention
   weights are real and nonnegative, the weighted squared distance expands, and a nonnegative value times its
   square root is its power one and a half. -/
module

public import Idealize.ShloMosaic.PureOps.Ideal
public import Idealize.ShloMosaic.PureOps.Ideal.Laws
public import Idealize.ShloMosaic.Lib.IdealHost

@[expose] public section

noncomputable section

namespace Cert.Hand

open Idealize.ShloMosaic

/-! ## Constants -/

/-- The pattern of two. -/
theorem lit_two : Ideal.ofBits .f32 0x40000000#32 = ((2 : ℝ) : EReal) := by
  simp [Ideal.ofBits, Ideal.ieee]
  rw [← EReal.coe_mul]
  norm_num

/-- The pattern of one half. -/
theorem lit_half : Ideal.ofBits .f32 0x3F000000#32 = ((1 / 2 : ℝ) : EReal) := by
  simp [Ideal.ofBits, Ideal.ieee]
  rw [← EReal.coe_mul]
  norm_num

/-- The pattern of one and a half. -/
theorem lit_threeHalves : Ideal.ofBits .f32 0x3FC00000#32 = ((3 / 2 : ℝ) : EReal) := by
  simp [Ideal.ofBits, Ideal.ieee]
  rw [← EReal.coe_mul]
  norm_num

/-! ## Sums and signs -/

/-- A finite sum of real numbers is the same sum among the extended reals. -/
theorem sum_real {ι : Type} (s : Finset ι) (f : ι → ℝ) :
    ∑ k ∈ s, (f k : EReal) = ((∑ k ∈ s, f k : ℝ) : EReal) :=
  (map_sum (⟨⟨Real.toEReal, EReal.coe_zero⟩, EReal.coe_add⟩ : ℝ →+ EReal) f s).symm

/-- A magnitude is not negative. -/
theorem mag_nonneg (x : EReal) : 0 ≤ max x (-x) := by
  rcases le_total 0 x with h | h
  · exact le_max_of_le_left h
  · exact le_max_of_le_right (EReal.neg_nonneg.mpr h)

/-- The magnitude of a real number. -/
theorem mag_real (r : ℝ) : max (r : EReal) (-(r : EReal)) = ((|r| : ℝ) : EReal) := by
  rw [← EReal.coe_neg, abs_eq_max_neg]
  exact (EReal.coe_strictMono.monotone.map_max).symm

/-- The exponential is not negative. -/
theorem exp_nonneg (x : EReal) : 0 ≤ Ideal.exp x := by
  induction x using EReal.rec with
  | bot => simp
  | top => simp
  | coe r => simpa using (Real.exp_pos r).le

/-! ## The attention weights -/

/-- The share of dimension `d` in the total magnitude of the attention vector. -/
def weight (A : Fin 256 → EReal) (d : Fin 256) : EReal :=
  Ideal.div (max (A d) (-A d)) (∑ e, max (A e) (-A e))

/-- When some attention entry is not zero, each share is a nonnegative real number. -/
theorem weight_real (A : Fin 256 → EReal) (hA : ∃ d, A d ≠ 0) :
    ∃ a : Fin 256 → ℝ, (∀ d, 0 ≤ a d) ∧ ∀ d, weight A d = (a d : EReal) := by
  have key : ∀ d, ∃ r : ℝ, 0 ≤ r ∧ weight A d = (r : EReal) := by
    intro d
    have hle : ∀ e, max (A e) (-A e) ≤ ∑ e, max (A e) (-A e) := fun e =>
      Finset.single_le_sum (f := fun e => max (A e) (-A e)) (fun _ _ => mag_nonneg _) (Finset.mem_univ e)
    have hne : ∑ e, max (A e) (-A e) ≠ 0 := by
      obtain ⟨e, he⟩ := hA
      intro h0
      have h1 : max (A e) (-A e) ≤ 0 := (hle e).trans_eq h0
      have h2 : A e ≤ 0 := (le_max_left _ _).trans h1
      have h3 : -A e ≤ 0 := (le_max_right _ _).trans h1
      exact he (le_antisymm h2 (by simpa using EReal.neg_le_neg_iff.mpr h3))
    unfold weight
    have hd := hle d
    have h0 := mag_nonneg (A d)
    generalize ∑ e, max (A e) (-A e) = S at hd hne
    generalize max (A d) (-A d) = x at hd h0
    rw [Ideal.div, if_neg hne]
    induction S using EReal.rec with
    | bot => exact absurd (h0.trans hd) (by simp)
    | top => exact ⟨0, le_rfl, by simp⟩
    | coe s =>
      induction x using EReal.rec with
      | bot => simp at h0
      | top => simp at hd
      | coe r =>
        have hr : 0 ≤ r := by exact_mod_cast h0
        have hs : r ≤ s := by exact_mod_cast hd
        exact ⟨r * s⁻¹, mul_nonneg hr (inv_nonneg.mpr (hr.trans hs)), by rw [← EReal.coe_inv, ← EReal.coe_mul]⟩
  choose a h0 ha using key
  exact ⟨a, h0, ha⟩

/-! ## The activation of one point at one centre -/

/-- The kernel's activation: minus the root of the expanded squared distance, exponentiated, times the mask. -/
def expanded (x c A : Fin 256 → EReal) (μ : EReal) : EReal :=
  Ideal.exp (Ideal.ofBits .f32 0xBF800000#32 *
    Ideal.sqrt (max ((∑ d, x d * (x d * weight A d)) + (∑ d, c d * c d * weight A d)
      - Ideal.ofBits .f32 0x40000000#32 * ∑ d, x d * weight A d * c d) 0)) * μ

/-- The reference's activation: minus the weighted distance, exponentiated, times the mask. -/
def direct (x c A : Fin 256 → EReal) (μ : EReal) : EReal :=
  Ideal.exp (Ideal.ofBits .f32 0xBF800000#32 *
    Ideal.pow (Ideal.pow (∑ d, Ideal.pow (max (x d - c d) (-(x d - c d))) (Ideal.ofBits .f32 0x40000000#32) * weight A d)
      (Ideal.ofBits .f32 0x3F000000#32)) 1) * μ

/-- For real points and centres, and attention not all zero, the two activations are equal. -/
theorem expanded_eq_direct (x c A : Fin 256 → EReal) (μ : EReal) (hx : ∀ d, ∃ r : ℝ, x d = (r : EReal))
    (hc : ∀ d, ∃ r : ℝ, c d = (r : EReal)) (hA : ∃ d, A d ≠ 0) : expanded x c A μ = direct x c A μ := by
  choose p hp using hx
  choose q hq using hc
  obtain ⟨a, ha0, ha⟩ := weight_real A hA
  unfold expanded direct
  have hpow : ∀ d, Ideal.pow (max (x d - c d) (-(x d - c d))) (Ideal.ofBits .f32 0x40000000#32) * weight A d
      = (((p d - q d) ^ 2 * a d : ℝ) : EReal) := by
    intro d
    rw [hp, hq, ha, lit_two, ← EReal.coe_sub, mag_real, Ideal.pow_coe_coe, ← EReal.coe_mul]
    congr 2
    show |p d - q d| ^ (2 : ℝ) = _
    rw [Real.rpow_two, sq_abs]
  have hxx : ∀ d, x d * (x d * weight A d) = ((p d * (p d * a d) : ℝ) : EReal) := by
    intro d; rw [hp, ha]; push_cast; rfl
  have hcc : ∀ d, c d * c d * weight A d = ((q d * q d * a d : ℝ) : EReal) := by
    intro d; rw [hq, ha]; push_cast; rfl
  have hxc : ∀ d, x d * weight A d * c d = ((p d * a d * q d : ℝ) : EReal) := by
    intro d; rw [hp, hq, ha]; push_cast; rfl
  simp only [hpow, hxx, hcc, hxc, sum_real]
  have hsum : (∑ d, p d * (p d * a d)) + (∑ d, q d * q d * a d) - 2 * ∑ d, p d * a d * q d
      = ∑ d, (p d - q d) ^ 2 * a d := by
    rw [Finset.mul_sum, ← Finset.sum_add_distrib, ← Finset.sum_sub_distrib]
    exact Finset.sum_congr rfl fun d _ => by ring
  have hnn : 0 ≤ ∑ d, (p d - q d) ^ 2 * a d :=
    Finset.sum_nonneg fun d _ => mul_nonneg (sq_nonneg _) (ha0 d)
  rw [lit_two, lit_half, ← EReal.coe_add, ← EReal.coe_mul, ← EReal.coe_sub, hsum]
  generalize ∑ d, (p d - q d) ^ 2 * a d = D at hnn
  rw [max_eq_left (by exact_mod_cast hnn), Ideal.sqrt_coe, if_neg (not_lt.mpr hnn), Ideal.pow_coe_coe,
    ← EReal.coe_one, Ideal.pow_coe_coe]
  congr 4
  show Real.sqrt D = (D ^ (1 / 2 : ℝ)) ^ (1 : ℝ)
  rw [Real.rpow_one, Real.sqrt_eq_rpow]

/-- An activation under a nonnegative mask is nonnegative. -/
theorem direct_nonneg (x c A : Fin 256 → EReal) (μ : EReal) (hμ : 0 ≤ μ) : 0 ≤ direct x c A μ :=
  mul_nonneg (exp_nonneg _) hμ

/-- A nonnegative value times its square root is its power one and a half. -/
theorem mul_sqrt_eq_pow (t : EReal) (ht : 0 ≤ t) :
    t * Ideal.sqrt t = Ideal.pow t (Ideal.ofBits .f32 0x3FC00000#32) := by
  rw [lit_threeHalves]
  induction t using EReal.rec with
  | bot => simp at ht
  | top =>
    rw [Ideal.sqrt_top, Ideal.pow_top, if_pos (by norm_num [← EReal.coe_zero])]
    rfl
  | coe r =>
    have hr : 0 ≤ r := by exact_mod_cast ht
    rw [Ideal.sqrt_coe, if_neg (not_lt.mpr hr), Ideal.pow_coe_coe, ← EReal.coe_mul]
    congr 1
    show r * Real.sqrt r = r ^ (3 / 2 : ℝ)
    rcases hr.eq_or_lt with rfl | hp
    · rw [zero_mul, Real.zero_rpow (by norm_num)]
    · rw [Real.sqrt_eq_rpow, show (3 / 2 : ℝ) = 1 + 1 / 2 by norm_num, Real.rpow_add hp, Real.rpow_one]

end Cert.Hand

end
-- ==== Proof.Readout.lean ====
/- What both programs compute from one point's activations: the competition, the masked logits, and the
   weighted sum of their softmax. -/
module

public import Idealize.ShloMosaic.PureOps.Ideal

@[expose] public section

noncomputable section

namespace Cert.Hand

open Idealize.ShloMosaic

/-- One centre's logit: its competed activation over the temperature, or minus infinity where the mask is not
    positive. `q` is the centre's product of activation and power, `P` all centres' powers. -/
def logit (μ q : EReal) (P : Fin 1024 → EReal) : EReal :=
  if 0 < μ then
    Ideal.div (Ideal.div q ((∑ l, P l) + Ideal.ofBits .f32 0x2B8CBCCC#32)) (Ideal.ofBits .f32 0x3DCCCCCD#32)
  else Ideal.ofBits .f32 0xFF800000#32

/-- The greatest logit. -/
def top (L : Fin 1024 → EReal) : EReal :=
  Finset.univ.fold max (Ideal.ofBits .f32 0xFF800000#32) L

/-- The scaled sum of a weight row under the softmax of the logits. -/
def readout (L w : Fin 1024 → EReal) : EReal :=
  Ideal.ofBits .f32 0x3FC00000#32 *
    ∑ k, Ideal.div (Ideal.exp (L k - top L)) (∑ l, Ideal.exp (L l - top L)) * w k

/-- The starting value of the greatest logit is not above it, so comparing with it again changes nothing. -/
theorem max_top (L : Fin 1024 → EReal) : max (Ideal.ofBits .f32 0xFF800000#32) (top L) = top L :=
  max_eq_right ((Finset.le_fold_max _).mpr (Or.inl le_rfl))

end Cert.Hand

end
-- ==== Proof.KernelRead.lean ====
/- What the kernel's block computes, read at an index: the activations in their expanded form and the readout. -/
module

public import proofs.«01_k».proof.Proof.Gen.KernelIdeal.Skeleton
public import proofs.«01_k».proof.Proof.Weights
public import proofs.«01_k».proof.Proof.Readout
public import Idealize.ShloMosaic.Lib.Pointwise

@[expose] public section

set_option maxRecDepth 16384

noncomputable section

namespace Cert.KernelIdeal.Hand

open Cert.KernelIdeal Cert.KernelIdeal.Gen Cert.Hand Idealize.ShloMosaic

/-- The activation of point `i` at centre `k`. -/
theorem act_at (X : FVec Ideal S256x256 .f32) (C : FVec Ideal S1024x256 .f32) (A : FVec Ideal S1x256 .f32)
    (M : FVec Ideal S1x1024 .f32) (i : Fin 256) (k : Fin 1024) :
    k0_pay3 (F := Ideal) X C A M (ix2 i k)
      = expanded (fun d => X (ix2 i d)) (fun d => C (ix2 k d)) (fun d => A (ix2 0 d)) (M (ix2 0 k)) := by
  pointwise [k0_pay3, k0_pay2]
  simp only [Fin.sum_univ_one]
  rfl

/-- The activation times its square root. -/
theorem pow_at (X : FVec Ideal S256x256 .f32) (C : FVec Ideal S1024x256 .f32) (A : FVec Ideal S1x256 .f32)
    (M : FVec Ideal S1x1024 .f32) (i : Fin 256) (k : Fin 1024) :
    k0_pay4 (F := Ideal) X C A M (ix2 i k)
      = k0_pay3 (F := Ideal) X C A M (ix2 i k) * Ideal.sqrt (k0_pay3 (F := Ideal) X C A M (ix2 i k)) := by
  pointwise [k0_pay4]

/-- The activation times the previous product. -/
theorem prod_at (X : FVec Ideal S256x256 .f32) (C : FVec Ideal S1024x256 .f32) (A : FVec Ideal S1x256 .f32)
    (M : FVec Ideal S1x1024 .f32) (i : Fin 256) (k : Fin 1024) :
    k0_pay5 (F := Ideal) X C A M (ix2 i k)
      = k0_pay3 (F := Ideal) X C A M (ix2 i k) * k0_pay4 (F := Ideal) X C A M (ix2 i k) := by
  pointwise [k0_pay5]

/-- The result of point `i` at output `o`, from the powers `P` and the products `Q`. -/
theorem out_at (M : FVec Ideal S1x1024 .f32) (W : FVec Ideal S2x1024 .f32) (P Q : FVec Ideal S256x1024 .f32)
    (i : Fin 256) (o : Fin 2) :
    k0_pay1 (F := Ideal) M W P Q (ix2 i o)
      = readout (fun k => logit (M (ix2 0 k)) (Q (ix2 i k)) fun l => P (ix2 i l)) (fun k => W (ix2 o k)) := by
  pointwise [k0_pay1]
  rfl

end Cert.KernelIdeal.Hand

end
-- ==== Proof.KernelArray.lean ====
/- What the kernel's result array holds after its run: the block's computation over the argument arrays. -/
module

public import proofs.«01_k».proof.Proof.Gen.KernelIdeal.Value
public import proofs.«01_k».proof.Proof.KernelRead
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The block's computation over whole arrays, the attention vector and the mask as single rows. -/
def block (X : FVec Ideal S256x256 .f32) (C : FVec Ideal S1024x256 .f32) (A : FVec Ideal S1x256 .f32)
    (M : FVec Ideal S1x1024 .f32) (W : FVec Ideal S2x1024 .f32) : FVec Ideal S256x2 .f32 :=
  k0_pay1 (k0_pay2 M) W (k0_pay4 X C A M) (k0_pay5 X C A M)

variable (m : (ℓ : Loc nD τ sig) → Buf (Elt Ideal) ℓ)

/-- Every window has one block, at the origin. -/
theorem origin : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The points are staged whole. -/
theorem points_block (c : Dev nD) (t : Fin cfg0.N) : iblk m c 0 t = m ((c : Thread nD τ).loc main_arg0) := by
  blk_ext! [iblk, V, origin t]

/-- The centres are staged whole. -/
theorem centres_block (c : Dev nD) (t : Fin cfg0.N) : iblk m c 1 t = m ((c : Thread nD τ).loc main_arg5) := by
  blk_ext! [iblk, V, origin t]

/-- The output weights are staged whole. -/
theorem weights_block (c : Dev nD) (t : Fin cfg0.N) : iblk m c 4 t = m ((c : Thread nD τ).loc main_arg8) := by
  blk_ext! [iblk, V, origin t]

/-- The attention row is staged whole. -/
theorem attn_block (c : Dev nD) (t : Fin cfg0.N) : iblk m c 2 t = V m c main_v0 := by
  blk_ext! [iblk, origin t]

/-- The mask row is staged whole. -/
theorem mask_block (c : Dev nD) (t : Fin cfg0.N) : iblk m c 3 t = V m c main_v1 := by
  blk_ext! [iblk, origin t]

/-- The attention row is the attention vector reshaped. -/
theorem attn_row (c : Dev nD) : V m c main_v0 = shapeCast S1x256 (m ((c : Thread nD τ).loc main_arg6)) shapeCasts_S256_S1x256 := by
  entry_read
  rfl

/-- The mask row is the mask vector reshaped. -/
theorem mask_row (c : Dev nD) : V m c main_v1 = shapeCast S1x1024 (m ((c : Thread nD τ).loc main_arg7)) shapeCasts_S1024_S1x1024 := by
  entry_read
  rfl

/-- The result array after the run. -/
theorem final (c : Dev nD) : (dats m 0 c).arrAt 5 cfg0.N
    = block (m ((c : Thread nD τ).loc main_arg0)) (m ((c : Thread nD τ).loc main_arg5))
        (shapeCast S1x256 (m ((c : Thread nD τ).loc main_arg6)) shapeCasts_S256_S1x256)
        (shapeCast S1x1024 (m ((c : Thread nD τ).loc main_arg7)) shapeCasts_S1024_S1x1024)
        (m ((c : Thread nD τ).loc main_arg8)) := by
  refine (dats m 0 c).arrAt_eq_of_after_last 5 t0_0 (by decide +kernel) _ fun j => ?_
  blk_simp
  rw [after0_5]
  frame_out
  rw [points_block, centres_block, weights_block, attn_block, mask_block, attn_row, mask_row]
  rfl

end Cert.KernelIdeal.Hand

end
-- ==== Proof.RefRead.lean ====
/- What the reference computes: its result cut into five named stages, each read at an index. -/
module

public import proofs.«01_k».proof.Proof.Gen.ReferenceIdeal.Run
public import proofs.«01_k».proof.Proof.Weights
public import proofs.«01_k».proof.Proof.Readout
public import Idealize.ShloMosaic.Lib.Pointwise

@[expose] public section

set_option maxRecDepth 16384

noncomputable section

namespace Cert.ReferenceIdeal.Hand

open Cert.ReferenceIdeal Cert.ReferenceIdeal.Gen Cert.Hand Idealize.ShloMosaic Idealize.ShloMosaic.TcCoe Idealize.SL.Sem

/-- The activations: the exponential of minus the distance, times the mask. -/
def act (X : FVec Ideal S256x256 .f32) (C : FVec Ideal S1024x256 .f32) (A : FVec Ideal S256 .f32)
    (M : FVec Ideal S1024 .f32) : FVec Ideal S256x1024 .f32 :=
  mulf (Host.exp (mulf (broadcastInDim S256x1024 ![] bcast_S_S256x1024 (constant S_ .f32 0xBF800000#32)) (Host.powf (Host.powf (Host.reduceAdd (mulf (Host.powf (Host.absf (subf (broadcastInDim S256x1024x256 ![0, 1, 2] bcast_S256x1x256_S256x1024x256_0_1_2 (broadcastInDim S256x1x256 ![0, 2] bcast_S256x256_S256x1x256_0_2 X)) (broadcastInDim S256x1024x256 ![0, 1, 2] bcast_S1x1024x256_S256x1024x256_0_1_2 (broadcastInDim S1x1024x256 ![1, 2] bcast_S1024x256_S1x1024x256_1_2 C)))) (broadcastInDim S256x1024x256 ![] bcast_S_S256x1024x256 (constant S_ .f32 0x40000000#32))) (broadcastInDim S256x1024x256 ![0, 1, 2] bcast_S1x1x256_S256x1024x256_0_1_2 (broadcastInDim S1x1x256 ![2] bcast_S256_S1x1x256_2 (Host.divf (Host.absf A) (broadcastInDim S256 ![] bcast_S_S256 (Host.reduceAdd (Host.absf A) (constant S_ .f32 0x00000000#32) reducesTo_S256_S_d0 h_S_)))))) (constant S_ .f32 0x00000000#32) reducesTo_S256x1024x256_S256x1024_d2 h_S_) (broadcastInDim S256x1024 ![] bcast_S_S256x1024 (constant S_ .f32 0x3F000000#32))) (broadcastInDim S256x1024 ![] bcast_S_S256x1024 (constant S_ .f32 0x3F800000#32))))) (broadcastInDim S256x1024 ![0, 1] bcast_S1x1024_S256x1024_0_1 (broadcastInDim S1x1024 ![1] bcast_S1024_S1x1024_1 M))

/-- The activations to the power one and a half. -/
def powered (T : FVec Ideal S256x1024 .f32) : FVec Ideal S256x1024 .f32 :=
  Host.powf T (broadcastInDim S256x1024 ![] bcast_S_S256x1024 (constant S_ .f32 0x3FC00000#32))

/-- The masked logits, from the activations and their powers. -/
def logits (M : FVec Ideal S1024 .f32) (T P : FVec Ideal S256x1024 .f32) : FVec Ideal S256x1024 .f32 :=
  select (broadcastInDim S256x1024 ![0, 1] bcast_S1x1024_S256x1024_0_1 (cmpf .ogt (broadcastInDim S1x1024 ![1] bcast_S1024_S1x1024_1 M) (broadcastInDim S1x1024 ![] bcast_S_S1x1024 (constant S_ .f32 0x00000000#32)))) (Host.divf (Host.divf (mulf T P) (broadcastInDim S256x1024 ![0, 1] bcast_S256x1_S256x1024_0_1 (addf (broadcastInDim S256x1 ![0] bcast_S256_S256x1_0 (Host.reduceAdd P (constant S_ .f32 0x00000000#32) reducesTo_S256x1024_S256_d1 h_S_)) (broadcastInDim S256x1 ![] bcast_S_S256x1 (constant S_ .f32 0x2B8CBCCC#32))))) (broadcastInDim S256x1024 ![] bcast_S_S256x1024 (constant S_ .f32 0x3DCCCCCD#32))) (broadcastInDim S256x1024 ![] bcast_S_S256x1024 (id (constant S_ .f32 0xFF800000#32)))

/-- The exponentials of the logits less their row's greatest. -/
def expo (L : FVec Ideal S256x1024 .f32) : FVec Ideal S256x1024 .f32 :=
  Host.exp (subf L (broadcastInDim S256x1024 ![0, 1] bcast_S256x1_S256x1024_0_1 (broadcastInDim S256x1 ![0] bcast_S256_S256x1_0 (maximumf (broadcastInDim S256 ![] bcast_S_S256 (constant S_ .f32 0xFF800000#32)) (Host.reduce FloatOps.maximumf L (constant S_ .f32 0xFF800000#32) reducesTo_S256x1024_S256_d1 h_S_)))))

/-- The result, from the exponentials. -/
def outp (W : FVec Ideal S2x1024 .f32) (E : FVec Ideal S256x1024 .f32) : FVec Ideal S256x2 .f32 :=
  mulf (broadcastInDim S256x2 ![] bcast_S_S256x2 (constant S_ .f32 0x3FC00000#32)) (Host.dotGeneral dot_S256x1024_S1024x2_S256x2_1_0_0_1_n_n none (Host.divf E (broadcastInDim S256x1024 ![0, 1] bcast_S256x1_S256x1024_0_1 (broadcastInDim S256x1 ![0] bcast_S256_S256x1_0 (Host.reduceAdd E (constant S_ .f32 0x00000000#32) reducesTo_S256x1024_S256_d1 h_S_)))) (transpose S1024x2 [1, 0] W transposes_S2x1024_S1024x2_1_0))

/-- The reference's result as a function of its arguments. -/
def result (X : FVec Ideal S256x256 .f32) (C : FVec Ideal S1024x256 .f32) (A : FVec Ideal S256 .f32)
    (M : FVec Ideal S1024 .f32) (W : FVec Ideal S2x1024 .f32) : FVec Ideal S256x2 .f32 :=
  outp W (expo (logits M (act X C A M) (powered (act X C A M))))

/-- The reference's run ends with `result` of its arguments. -/
theorem res_eq (m : (ℓ : Loc nD τ sig) → Buf (Elt Ideal) ℓ) (c : Dev nD) :
    Value.res_out0 m c = result (m ((c.tc : Thread nD τ).loc main_arg0)) (m ((c.tc : Thread nD τ).loc main_arg5))
      (m ((c.tc : Thread nD τ).loc main_arg6)) (m ((c.tc : Thread nD τ).loc main_arg7))
      (m ((c.tc : Thread nD τ).loc main_arg8)) := rfl

/-- The activation of point `i` at centre `k`. -/
theorem act_at (X : FVec Ideal S256x256 .f32) (C : FVec Ideal S1024x256 .f32) (A : FVec Ideal S256 .f32)
    (M : FVec Ideal S1024 .f32) (i : Fin 256) (k : Fin 1024) :
    act X C A M (ix2 i k)
      = direct (fun d => X (ix2 i d)) (fun d => C (ix2 k d)) (fun d => A (ix1 d)) (M (ix1 k)) := by
  pointwise [act]
  rfl

/-- The power of an activation. -/
theorem powered_at (T : FVec Ideal S256x1024 .f32) (i : Fin 256) (k : Fin 1024) :
    powered T (ix2 i k) = Ideal.pow (T (ix2 i k)) (Ideal.ofBits .f32 0x3FC00000#32) := by
  pointwise [powered]

/-- The logit of point `i` at centre `k`. -/
theorem logits_at (M : FVec Ideal S1024 .f32) (T P : FVec Ideal S256x1024 .f32) (i : Fin 256) (k : Fin 1024) :
    logits M T P (ix2 i k) = logit (M (ix1 k)) (T (ix2 i k) * P (ix2 i k)) fun l => P (ix2 i l) := by
  pointwise [logits]
  rfl

/-- The exponential of a logit less its row's greatest. -/
theorem expo_at (L : FVec Ideal S256x1024 .f32) (i : Fin 256) (k : Fin 1024) :
    expo L (ix2 i k) = Ideal.exp (L (ix2 i k) - top fun l => L (ix2 i l)) := by
  rw [← max_top]
  pointwise [expo]
  rfl

/-- The result of point `i` at output `o`, from the logits. -/
theorem out_at (W : FVec Ideal S2x1024 .f32) (L : FVec Ideal S256x1024 .f32) (i : Fin 256) (o : Fin 2) :
    outp W (expo L) (ix2 i o) = readout (fun k => L (ix2 i k)) (fun k => W (ix2 o k)) := by
  pointwise [outp]
  simp only [expo_at]
  rfl

end Cert.ReferenceIdeal.Hand

end
-- ==== Proof.Inputs.lean ====
/- What the precondition says of the argument arrays: the points and the centres are finite, some attention
   weight is not zero, and no mask entry is negative. -/
module

public import proofs.«01_k».proof.Pre_pre
public import Idealize.ShloMosaic.PureOps.Ideal
public import Idealize.ShloMosaic.Lib.Pointwise

@[expose] public section

set_option maxRecDepth 16384

noncomputable section

namespace Cert.Pre_pre.Hand

open Cert.Pre_pre Idealize.ShloMosaic

/-- The shape relations the precondition's operations need. -/
theorem shapes : Cert.Pre_pre.Facts where
  bcast_S_S256x256 := by decide
  reducesTo_S256x256_S_d0_1 := by decide
  h_S_ := by decide
  bcast_S_S1024x256 := by decide
  reducesTo_S1024x256_S_d0_1 := by decide
  bcast_S_S256 := by decide
  reducesTo_S256_S_d0 := by decide
  bcast_S_S1024 := by decide
  reducesTo_S1024_S_d0 := by decide

/-- The conjunction of two truth values is true exactly when both are. -/
theorem both_iff (u v : BitVec 1) : IntOp.andi u v = 1#1 ↔ u = 1#1 ∧ v = 1#1 := by
  revert u v; decide

/-- A truth value is true exactly when its proposition holds. -/
theorem holds_iff (p : Prop) [Decidable p] : BitVec.ofBool (decide p) = 1#1 ↔ p := by
  by_cases h : p <;> simp [h]

/-- The conjunction of a family of truth values is true exactly when each of them is. -/
theorem fold_and_iff {ι : Type} (s : Finset ι) (f : ι → BitVec 1) :
    s.fold IntOp.andi 1#1 f = 1#1 ↔ ∀ k ∈ s, f k = 1#1 := by
  have h := Finset.fold_op_rel_iff_and (op := IntOp.andi (w := 1)) (f := f) (s := s) (b := 1#1) (c := 1#1)
    (r := fun _ v => v = 1#1) (fun {_ y z} => by revert y z; decide)
  simpa using h

/-- The disjunction of a family of truth values is true exactly when one of them is. -/
theorem fold_or_iff {ι : Type} (s : Finset ι) (f : ι → BitVec 1) :
    s.fold IntOp.ori 0#1 f = 1#1 ↔ ∃ k ∈ s, f k = 1#1 := by
  have h := Finset.fold_op_rel_iff_or (op := IntOp.ori (w := 1)) (f := f) (s := s) (b := 0#1) (c := 1#1)
    (r := fun _ v => v = 1#1) (fun {_ y z} => by revert y z; decide)
  simpa using h

/-- The bound the precondition compares magnitudes with is infinity. -/
theorem bound_eq : Ideal.ofBits .f32 0x7F800000#32 = ⊤ := by simp [Ideal.ofBits, Ideal.ieee]

/-- An extended real whose magnitude is below infinity is a real number. -/
theorem finite_of_abs_lt {x : EReal} (h : max x (-x) < ⊤) : ∃ r : ℝ, x = (r : EReal) := by
  induction x using EReal.rec with
  | bot => simp at h
  | top => simp at h
  | coe r => exact ⟨r, rfl⟩

variable [Facts]

/-- The precondition, read element by element. -/
theorem of_pre (X : FVec Ideal S256x256 .f32) (e i s : IVec S_ 32) (y : FVec Ideal S256x2 .f32)
    (C : FVec Ideal S1024x256 .f32) (A : FVec Ideal S256 .f32) (M : FVec Ideal S1024 .f32)
    (W : FVec Ideal S2x1024 .f32) (h : fn (F := Ideal) X e i s y C A M W = fun _ => 1#1) :
    (∀ (a : Fin 256) (d : Fin 256), ∃ r : ℝ, X (ix2 a d) = (r : EReal))
    ∧ (∀ (k : Fin 1024) (d : Fin 256), ∃ r : ℝ, C (ix2 k d) = (r : EReal))
    ∧ (∃ d : Fin 256, A (ix1 d) ≠ 0)
    ∧ (∀ k : Fin 1024, 0 ≤ M (ix1 k)) := by
  have h0 := congrFun h ix0
  pointwise [fn, fn_part1] at h0
  rw [both_iff, both_iff, both_iff, fold_and_iff, fold_and_iff, fold_or_iff, fold_and_iff] at h0
  obtain ⟨⟨⟨hx, hc⟩, ha⟩, hm⟩ := h0
  refine ⟨fun a d => ?_, fun k d => ?_, ?_, fun k => ?_⟩
  · exact finite_of_abs_lt (bound_eq ▸ (holds_iff _).mp (hx (a, d) (Finset.mem_univ _)))
  · exact finite_of_abs_lt (bound_eq ▸ (holds_iff _).mp (hc (k, d) (Finset.mem_univ _)))
  · obtain ⟨d, -, hd⟩ := ha
    exact ⟨d, (holds_iff _).mp hd⟩
  · exact (holds_iff _).mp (hm k (Finset.mem_univ _))

end Cert.Pre_pre.Hand

end
-- ==== Proof.Equation.lean ====
/- The equation: over arguments that meet the precondition, the kernel's block and the reference compute one
   result. -/
module

public import proofs.«01_k».proof.Proof.KernelArray
public import proofs.«01_k».proof.Proof.RefRead
public import proofs.«01_k».proof.Proof.Inputs

@[expose] public section

set_option maxRecDepth 16384

noncomputable section

namespace Cert.Hand

open Idealize.ShloMosaic
open Cert.KernelIdeal (S256x256 S1024x256 S256 S1024 S2x1024 S1x256 S1x1024 S256x1024)
open Cert.KernelIdeal.Gen (shapeCasts_S256_S1x256 shapeCasts_S1024_S1x1024 k0_pay2 k0_pay3)

/-- A vector laid out as one row, read in that row. -/
theorem attn_row_at (A : FVec Ideal S256 .f32) (d : Fin 256) :
    shapeCast S1x256 A shapeCasts_S256_S1x256 (ix2 0 d) = A (ix1 d) := by
  pointwise

/-- The mask laid out as one row, read in that row. -/
theorem mask_row_at (M : FVec Ideal S1024 .f32) (k : Fin 1024) :
    shapeCast S1x1024 M shapeCasts_S1024_S1x1024 (ix2 0 k) = M (ix1 k) := by
  pointwise

/-- Passing the mask row through the block leaves it as it is. -/
theorem mask_kept_at (M : FVec Ideal S1x1024 .f32) (k : Fin 1024) : k0_pay2 (F := Ideal) M (ix2 0 k) = M (ix2 0 k) := by
  pointwise [k0_pay2]

/-- The two programs' activations of point `i` at centre `k` are equal. -/
theorem act_eq (X : FVec Ideal S256x256 .f32) (C : FVec Ideal S1024x256 .f32) (A : FVec Ideal S256 .f32)
    (M : FVec Ideal S1024 .f32)
    (hX : ∀ (a : Fin 256) (d : Fin 256), ∃ r : ℝ, X (ix2 a d) = (r : EReal))
    (hC : ∀ (k : Fin 1024) (d : Fin 256), ∃ r : ℝ, C (ix2 k d) = (r : EReal))
    (hA : ∃ d : Fin 256, A (ix1 d) ≠ 0) (i : Fin 256) (k : Fin 1024) :
    k0_pay3 (F := Ideal) X C (shapeCast S1x256 A shapeCasts_S256_S1x256)
      (shapeCast S1x1024 M shapeCasts_S1024_S1x1024) (ix2 i k) = Cert.ReferenceIdeal.Hand.act X C A M (ix2 i k) := by
  rw [Cert.KernelIdeal.Hand.act_at, mask_row_at]
  simp only [attn_row_at]
  exact (expanded_eq_direct _ _ _ _ (hX i) (hC k) hA).trans (Cert.ReferenceIdeal.Hand.act_at X C A M i k).symm

/-- The reference's activations are nonnegative under a nonnegative mask. -/
theorem act_nonneg (X : FVec Ideal S256x256 .f32) (C : FVec Ideal S1024x256 .f32) (A : FVec Ideal S256 .f32)
    (M : FVec Ideal S1024 .f32) (hM : ∀ k : Fin 1024, 0 ≤ M (ix1 k)) (i : Fin 256) (k : Fin 1024) :
    0 ≤ Cert.ReferenceIdeal.Hand.act X C A M (ix2 i k) :=
  (direct_nonneg _ _ _ _ (hM k)).trans_eq (Cert.ReferenceIdeal.Hand.act_at X C A M i k).symm

/-- The kernel's block computes the reference's result, at point `i` and output `o`. -/
theorem block_at (X : FVec Ideal S256x256 .f32) (C : FVec Ideal S1024x256 .f32) (A : FVec Ideal S256 .f32)
    (M : FVec Ideal S1024 .f32) (W : FVec Ideal S2x1024 .f32)
    (hX : ∀ (a : Fin 256) (d : Fin 256), ∃ r : ℝ, X (ix2 a d) = (r : EReal))
    (hC : ∀ (k : Fin 1024) (d : Fin 256), ∃ r : ℝ, C (ix2 k d) = (r : EReal))
    (hA : ∃ d : Fin 256, A (ix1 d) ≠ 0) (hM : ∀ k : Fin 1024, 0 ≤ M (ix1 k)) (i : Fin 256) (o : Fin 2) :
    Cert.KernelIdeal.Hand.block X C (shapeCast S1x256 A shapeCasts_S256_S1x256)
      (shapeCast S1x1024 M shapeCasts_S1024_S1x1024) W (ix2 i o)
      = Cert.ReferenceIdeal.Hand.result X C A M W (ix2 i o) := by
  have hact := act_eq X C A M hX hC hA i
  have hpos := act_nonneg X C A M hM i
  refine (Cert.KernelIdeal.Hand.out_at _ _ _ _ i o).trans (Eq.trans ?_ (Cert.ReferenceIdeal.Hand.out_at _ _ i o).symm)
  refine congrArg (fun L => readout L fun k => W (ix2 o k)) (funext fun k => ?_)
  refine Eq.trans ?_ (Cert.ReferenceIdeal.Hand.logits_at M _ _ i k).symm
  rw [mask_kept_at, mask_row_at, Cert.KernelIdeal.Hand.prod_at]
  simp only [Cert.KernelIdeal.Hand.pow_at]
  simp only [hact, Cert.ReferenceIdeal.Hand.powered_at, fun l => mul_sqrt_eq_pow _ (hpos l)]

/-- The kernel's block computes the reference's result. -/
theorem block_eq_result (X : FVec Ideal S256x256 .f32) (C : FVec Ideal S1024x256 .f32) (A : FVec Ideal S256 .f32)
    (M : FVec Ideal S1024 .f32) (W : FVec Ideal S2x1024 .f32)
    (hX : ∀ (a : Fin 256) (d : Fin 256), ∃ r : ℝ, X (ix2 a d) = (r : EReal))
    (hC : ∀ (k : Fin 1024) (d : Fin 256), ∃ r : ℝ, C (ix2 k d) = (r : EReal))
    (hA : ∃ d : Fin 256, A (ix1 d) ≠ 0) (hM : ∀ k : Fin 1024, 0 ≤ M (ix1 k)) :
    Cert.KernelIdeal.Hand.block X C (shapeCast S1x256 A shapeCasts_S256_S1x256)
      (shapeCast S1x1024 M shapeCasts_S1024_S1x1024) W = Cert.ReferenceIdeal.Hand.result X C A M W :=
  funext fun j => by
    rw [eq_ix2 j]
    exact block_at X C A M W hX hC hA hM (j 0) (j 1)

end Cert.Hand

end
-- ==== Proof.lean ====
/- The certificate: the runs, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The idealised reference runs, leaves its arguments as they were, and has no semaphore to leave counting. -/
theorem reference_runs : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- From arguments that meet the precondition, the idealised kernel and the idealised reference end with one result. -/
theorem results_equal : Cert.algebraic_KernelIdeal_ReferenceIdeal_pre_pre (hKernelIdeal := Cert.KernelIdeal.Gen.facts)
    (hReferenceIdeal := Cert.ReferenceIdeal.Gen.facts) (hPre_pre := Cert.Pre_pre.Hand.shapes) := by
  pair_intro
  · run_from Cert.KernelIdeal.Value.run_blocks m g
  · run_from Cert.ReferenceIdeal.Value.run m' g'
    obtain ⟨h0, -, -, -, -, h5, h6, h7, h8⟩ := hagree c
    haveI := Cert.Pre_pre.Hand.shapes
    obtain ⟨hX, hC, hA, hM⟩ := Cert.Pre_pre.Hand.of_pre (h := hpre c)
    refine (Cert.ReferenceIdeal.Hand.res_eq m' c).trans ?_
    rw [h0, h5, h6, h7, h8]
    exact ((Cert.KernelIdeal.Hand.final m c).trans (Cert.Hand.block_eq_result _ _ _ _ _ hX hC hA hM)).symm

/-- The whole certificate. -/
theorem claim : Cert.Claim :=
  ⟨Cert.Kernel.Gen.facts, Cert.KernelIdeal.Gen.facts, Cert.ReferenceIdeal.Gen.facts, Cert.Pre_pre.Hand.shapes,
    fun m g _ => Cert.Kernel.Gen.frame m g, fun m g _ => Cert.KernelIdeal.Gen.frame m g,
    fun m g _ => Cert.KernelIdeal.Gen.frame m g, reference_runs, fun m g _ => reference_runs m g trivial,
    trivial, results_equal⟩

end Cert.Proof

end
